-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.sign_bit.Statement Cert.KernelIdeal.S4096x256 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x4096 : Shape := ⟨2, ![4096, 4096]⟩
abbrev S512x4096 : Shape := ⟨2, ![512, 4096]⟩
abbrev S8x256 : Shape := ⟨2, ![8, 256]⟩
abbrev S4x256 : Shape := ⟨2, ![4, 256]⟩
abbrev S2x256 : Shape := ⟨2, ![2, 256]⟩
abbrev S1x256 : Shape := ⟨2, ![1, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .local _ .vmem, ⟨0, _⟩ => ⟨S4096x256, .f32⟩
  | .local _ .vmem, ⟨1, _⟩ => ⟨S512x4096, .f32⟩
  | .local _ .vmem, ⟨2, _⟩ => ⟨S512x4096, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [BitOps F]

abbrev grid0 : Pipeline.Grid := ⟨2, ![10, 8], ![false, false]⟩

def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg1 : BitVec 32 := BitVec.ofNat 32 (i 1).val
  let c512_i32 : BitVec 32 := 512#32
  let v19 : BitVec 32 := Scalar.muli arg1 c512_i32
  let v20 : Index := Scalar.indexCast v19
  let c0_9 : Index := 0#32
  ![v20.toNat, 0]
def k0_cond6 (i : grid0.Coords) : BitVec 1 :=
  let arg0 : BitVec 32 := BitVec.ofNat 32 (i 0).val
  let c0_i32_3 : BitVec 32 := 0#32
  let v6 : BitVec 1 := Scalar.cmpi .sgt arg0 c0_i32_3
  let v7 : BitVec 32 := Scalar.extui v6
  let c0_i32_4 : BitVec 32 := 0#32
  let v8 : BitVec 1 := Scalar.cmpi .ne v7 c0_i32_4
  v8

def k0_off2 (i : grid0.Coords) : Fin 2 → Nat :=
  let arg1 : BitVec 32 := BitVec.ofNat 32 (i 1).val
  let c512_i32 : BitVec 32 := 512#32
  let v17 : BitVec 32 := Scalar.muli arg1 c512_i32
  let v18 : Index := Scalar.indexCast v17
  let c0_9 : Index := 0#32
  ![v18.toNat, 0]
def k0_cond7 (i : grid0.Coords) : BitVec 1 :=
  let arg0 : BitVec 32 := BitVec.ofNat 32 (i 0).val
  let c9_i32 : BitVec 32 := 9#32
  let v9 : BitVec 1 := Scalar.cmpi .eq arg0 c9_i32
  let arg1 : BitVec 32 := BitVec.ofNat 32 (i 1).val
  let c7_i32 : BitVec 32 := 7#32
  let v10 : BitVec 1 := Scalar.cmpi .eq arg1 c7_i32
  let v11 : BitVec 1 := Scalar.andi v9 v10
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F]
-- ==== ReferenceIdeal.lean ====
abbrev S4096x256 : Shape := ⟨2, ![4096, 256]⟩
abbrev S4096x4096 : Shape := ⟨2, ![4096, 4096]⟩
abbrev S_ : Shape := ⟨0, ![]⟩
abbrev S256 : Shape := ⟨1, ![256]⟩
abbrev S1x256 : Shape := ⟨2, ![1, 256]⟩

abbrev nBuf : Space → Nat
  | .hbm => 162
  | .vmem => 0
  | .smem => 0
  | _ => 0

abbrev hbmTy0_0 (i : Nat) : BufTy := match i % 128 with
  | 0 => ⟨S4096x256, .f32⟩
  | 1 => ⟨S4096x4096, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S4096x256, .f32⟩
  | 8 => ⟨S4096x256, .f32⟩
  | 9 => ⟨S_, .f32⟩
  | 10 => ⟨S256, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S4096x256, .f32⟩
  | 17 => ⟨S4096x256, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S4096x256, .f32⟩
  | 24 => ⟨S4096x256, .f32⟩
  | 25 => ⟨S_, .f32⟩
  | 26 => ⟨S256, .f32⟩
  | 27 => ⟨S1x256, .f32⟩
  | 28 => ⟨S1x256, .f32⟩
  | 29 => ⟨S_, .f32⟩
  | 30 => ⟨S1x256, .f32⟩
  | 31 => ⟨S1x256, .f32⟩
  | 32 => ⟨S4096x256, .f32⟩
  | 33 => ⟨S4096x256, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S4096x256, .f32⟩
  | 40 => ⟨S4096x256, .f32⟩
  | 41 => ⟨S_, .f32⟩
  | 42 => ⟨S256, .f32⟩
  | 43 => ⟨S1x256, .f32⟩
  | 44 => ⟨S1x256, .f32⟩
  | 45 => ⟨S_, .f32⟩
  | 46 => ⟨S1x256, .f32⟩
  | 47 => ⟨S1x256, .f32⟩
  | 48 => ⟨S4096x256, .f32⟩
  | 49 => ⟨S4096x256, .f32⟩
  | 50 => ⟨S4096x256, .f32⟩
  | 51 => ⟨S4096x256, .f32⟩
  | 52 => ⟨S_, .f32⟩
  | 53 => ⟨S4096x256, .f32⟩
  | 54 => ⟨S4096x256, .f32⟩
  | 55 => ⟨S4096x256, .f32⟩
  | 56 => ⟨S4096x256, .f32⟩
  | 57 => ⟨S_, .f32⟩
  | 58 => ⟨S256, .f32⟩
  | 59 => ⟨S1x256, .f32⟩
  | 60 => ⟨S1x256, .f32⟩
  | 61 => ⟨S_, .f32⟩
  | 62 => ⟨S1x256, .f32⟩
  | 63 => ⟨S1x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S4096x256, .f32⟩
  | 72 => ⟨S4096x256, .f32⟩
  | 73 => ⟨S_, .f32⟩
  | 74 => ⟨S256, .f32⟩
  | 75 => ⟨S1x256, .f32⟩
  | 76 => ⟨S1x256, .f32⟩
  | 77 => ⟨S_, .f32⟩
  | 78 => ⟨S1x256, .f32⟩
  | 79 => ⟨S1x256, .f32⟩
  | 80 => ⟨S4096x256, .f32⟩
  | 81 => ⟨S4096x256, .f32⟩
  | 82 => ⟨S4096x256, .f32⟩
  | 83 => ⟨S4096x256, .f32⟩
  | 84 => ⟨S_, .f32⟩
  | 85 => ⟨S4096x256, .f32⟩
  | 86 => ⟨S4096x256, .f32⟩
  | 87 => ⟨S4096x256, .f32⟩
  | 88 => ⟨S4096x256, .f32⟩
  | 89 => ⟨S_, .f32⟩
  | 90 => ⟨S256, .f32⟩
  | 91 => ⟨S1x256, .f32⟩
  | 92 => ⟨S1x256, .f32⟩
  | 93 => ⟨S_, .f32⟩
  | 94 => ⟨S1x256, .f32⟩
  | 95 => ⟨S1x256, .f32⟩
  | 96 => ⟨S4096x256, .f32⟩
  | 97 => ⟨S4096x256, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S4096x256, .f32⟩
  | 104 => ⟨S4096x256, .f32⟩
  | 105 => ⟨S_, .f32⟩
  | 106 => ⟨S256, .f32⟩
  | 107 => ⟨S1x256, .f32⟩
  | 108 => ⟨S1x256, .f32⟩
  | 109 => ⟨S_, .f32⟩
  | 110 => ⟨S1x256, .f32⟩
  | 111 => ⟨S1x256, .f32⟩
  | 112 => ⟨S4096x256, .f32⟩
  | 113 => ⟨S4096x256, .f32⟩
  | 114 => ⟨S4096x256, .f32⟩
  | 115 => ⟨S4096x256, .f32⟩
  | 116 => ⟨S_, .f32⟩
  | 117 => ⟨S4096x256, .f32⟩
  | 118 => ⟨S4096x256, .f32⟩
  | 119 => ⟨S4096x256, .f32⟩
  | 120 => ⟨S4096x256, .f32⟩
  | 121 => ⟨S_, .f32⟩
  | 122 => ⟨S256, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S4096x256, .f32⟩

abbrev hbmTy0_1 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S4096x256, .f32⟩
  | 8 => ⟨S4096x256, .f32⟩
  | 9 => ⟨S_, .f32⟩
  | 10 => ⟨S256, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S4096x256, .f32⟩
  | 17 => ⟨S4096x256, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S4096x256, .f32⟩
  | 24 => ⟨S4096x256, .f32⟩
  | 25 => ⟨S_, .f32⟩
  | 26 => ⟨S256, .f32⟩
  | 27 => ⟨S1x256, .f32⟩
  | 28 => ⟨S1x256, .f32⟩
  | 29 => ⟨S_, .f32⟩
  | 30 => ⟨S1x256, .f32⟩
  | 31 => ⟨S1x256, .f32⟩
  | 32 => ⟨S4096x256, .f32⟩
  | 33 => ⟨S4096x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_12 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_14 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_15 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_16 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_17 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_18 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_19 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_20 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_21 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_22 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_23 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_24 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_25 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_26 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_27 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_28 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Skeleton
public import Idealize.ShloMosaic.Lib.Claim

/-!
# The compiled kernel ends and leaves its arguments

Nothing is said of what the kernel computes: before and after every point the scratch arrays and the output's buffer are owned
at some contents.
-/

@[expose] public section

set_option maxRecDepth 16384

noncomputable section

namespace Cert.Kernel.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]
local notation "𝕄" => MT nD τ sig Unit (Elt F) ℕ (UR sig nD τ) ℕ

/-- The point is the first of its sweep. -/
abbrev atStart (i : grid0.Coords) : Prop := (Scalar.cmpi .ne (Scalar.extui (Scalar.cmpi .eq (BitVec.ofNat 32 (i 1).val) 0#32)) 0#32) = 1#1
/-- The point is of the sweep 0. -/
abbrev sweep0 (i : grid0.Coords) : Prop := (Scalar.cmpi .ne (Scalar.extui (Scalar.cmpi .eq (BitVec.ofNat 32 (i 0).val) 0#32)) 0#32) = 1#1
/-- The point is of the sweep 1. -/
abbrev sweep1 (i : grid0.Coords) : Prop := (Scalar.cmpi .ne (Scalar.extui (Scalar.cmpi .eq (BitVec.ofNat 32 (i 0).val) 1#32)) 0#32) = 1#1
/-- The point is of a sweep after the sweep 1. -/
abbrev sweepLater (i : grid0.Coords) : Prop := (Scalar.cmpi .ne (Scalar.extui (Scalar.cmpi .sgt (BitVec.ofNat 32 (i 0).val) 1#32)) 0#32) = 1#1

/-- The combinations of the branch conditions that the points meet. -/
theorem cases : ∀ t : Fin grid0.N,
    (atStart (grid0.coords t) ∧ sweep0 (grid0.coords t) ∧ ¬ sweep1 (grid0.coords t) ∧ ¬ sweepLater (grid0.coords t)
        ∧ k0_cond5 (grid0.coords t) = 1#1 ∧ ¬ k0_cond6 (grid0.coords t) = 1#1 ∧ ¬ k0_cond7 (grid0.coords t) = 1#1)
    ∨ (atStart (grid0.coords t) ∧ ¬ sweep0 (grid0.coords t) ∧ sweep1 (grid0.coords t) ∧ ¬ sweepLater (grid0.coords t)
        ∧ ¬ k0_cond5 (grid0.coords t) = 1#1 ∧ k0_cond6 (grid0.coords t) = 1#1 ∧ ¬ k0_cond7 (grid0.coords t) = 1#1)
    ∨ (atStart (grid0.coords t) ∧ ¬ sweep0 (grid0.coords t) ∧ ¬ sweep1 (grid0.coords t) ∧ sweepLater (grid0.coords t)
        ∧ ¬ k0_cond5 (grid0.coords t) = 1#1 ∧ k0_cond6 (grid0.coords t) = 1#1 ∧ ¬ k0_cond7 (grid0.coords t) = 1#1)
    ∨ (¬ atStart (grid0.coords t) ∧ k0_cond5 (grid0.coords t) = 1#1 ∧ ¬ k0_cond6 (grid0.coords t) = 1#1 ∧ ¬ k0_cond7 (grid0.coords t) = 1#1)
    ∨ (¬ atStart (grid0.coords t) ∧ ¬ k0_cond5 (grid0.coords t) = 1#1 ∧ k0_cond6 (grid0.coords t) = 1#1 ∧ ¬ k0_cond7 (grid0.coords t) = 1#1)
    ∨ (¬ atStart (grid0.coords t) ∧ ¬ k0_cond5 (grid0.coords t) = 1#1 ∧ k0_cond6 (grid0.coords t) = 1#1 ∧ k0_cond7 (grid0.coords t) = 1#1) := by
  decide +kernel

section Body

variable (c : Dev nD) (arg2 : Memref sig .tc .vmem S4096x256 .f32) (harg2 : arg2.IsWhole)
  (arg3 : Memref sig .tc .vmem S512x4096 .f32) (harg3 : arg3.IsWhole) (arg4 : Memref sig .tc .vmem S4096x256 .f32) (harg4 : arg4.IsWhole)
  (arg5 : Memref sig .tc .vmem S4096x256 .f32) (harg5 : arg5.IsWhole) (arg6 : Memref sig .tc .vmem S4096x256 .f32) (harg6 : arg6.IsWhole)
  (x2 : Vec F S4096x256 .f32) (x3 : Vec F S512x4096 .f32)

/-- The inputs' buffers at their contents, the others at some. -/
abbrev held : sProp 𝕄 :=
  iprop(owns (c : Thread nD τ) arg2 fullShare x2 ∗ owns (c : Thread nD τ) arg3 fullShare x3
    ∗ (∃ d, owns (c : Thread nD τ) arg4 fullShare d) ∗ (∃ d, owns (c : Thread nD τ) arg5 fullShare d)
    ∗ (∃ d, owns (c : Thread nD τ) arg6 fullShare d))

variable {arg2 arg3 arg4 arg5 arg6} in
/-- Buffers held at any contents, the inputs' at what they read. -/
theorem held_intro {f2 : arg2.view.ty.Contents (Elt F)} {f3 : arg3.view.ty.Contents (Elt F)} {f4 : arg4.view.ty.Contents (Elt F)}
    {f5 : arg5.view.ty.Contents (Elt F)} {f6 : arg6.view.ty.Contents (Elt F)} :
    iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6)
        ∗ ⌜arg2.view.read (Elt F) f2 = x2 ∧ arg3.view.read (Elt F) f3 = x3⌝)
      ⊢ (held c arg2 arg3 arg4 arg5 arg6 x2 x3 : sProp 𝕄) := by
  unfold held owns
  iintro ⟨H2, H3, H4, H5, H6, %e⟩
  isplitl [H2]
  · iexists f2; isplitr
    · ipureintro; exact e.1
    · iexact H2
  isplitl [H3]
  · iexists f3; isplitr
    · ipureintro; exact e.2
    · iexact H3
  isplitl [H4]
  · iexists _, f4; isplitr
    swap
    · iexact H4
    · ipureintro; rfl
  isplitl [H5]
  · iexists _, f5; isplitr
    swap
    · iexact H5
    · ipureintro; rfl
  · iexists _, f6; isplitr
    swap
    · iexact H6
    · ipureintro; rfl

set_option maxHeartbeats 4000000 in
/-- The body at any point. -/
theorem run_point (t : Fin grid0.N) (E : Set ℕ) (K : PUnit → sProp 𝕄) :
    iprop(held c arg2 arg3 arg4 arg5 arg6 x2 x3 ∗ (iprop(held c arg2 arg3 arg4 arg5 arg6 x2 x3) -∗ K ⟨⟩))
      ⊢ wp frame (wpE (defs₀ (F := F)) Variants.none c none) E
          (cc0__body (grid0.coords t) arg2 harg2 arg3 harg3 arg4 harg4 arg5 harg5 arg6 harg6) K := by
  have hc := cases t
  generalize grid0.coords t = i at hc ⊢
  simp only [cc0__body_eq_skeleton]; unfold cc0__body_skel
  unfold held owns
  iintro ⟨⟨⟨%f2, %hf2, H2⟩, ⟨%f3, %hf3, H3⟩, ⟨%d4, %f4, %hf4, H4⟩, ⟨%d5, %f5, %hf5, H5⟩, ⟨%d6, %f6, %hf6, H6⟩⟩, Hk⟩
  obtain rfl := harg2.eq_unread hf2; obtain rfl := harg3.eq_unread hf3
  rcases hc with ⟨h1, h2, h3, h4, h5, h6, h7⟩ | ⟨h1, h2, h3, h4, h5, h6, h7⟩ | ⟨h1, h2, h3, h4, h5, h6, h7⟩ | ⟨h1, h5, h6, h7⟩
    | ⟨h1, h5, h6, h7⟩ | ⟨h1, h5, h6, h7⟩
  all_goals
    sl_exec (disch := first | sl_exact h1 | sl_exact h5 | sl_exact h6 | sl_exact h7 | sl_exact h2 | sl_exact h3 | sl_exact h4)
    sl_step
    iapply Hk
    iapply held_intro c
    isplitl [H2]
    · iexact H2
    isplitl [H3]
    · iexact H3
    isplitl [H4]
    · iexact H4
    isplitl [H5]
    · iexact H5
    isplitl [H6]
    · iexact H6
    ipureintro
    exact ⟨harg2.read_unread _, harg3.read_unread _⟩

end Body

variable (m : (ℓ : Loc nD τ sig) → Buf (Elt F) ℓ) (ρ : Dev nD → PrngReg)

/-- The staging buffers of a point, and the scratch arrays. -/
abbrev stage0 (t : Fin cfg0.N) : Memref sig .tc .vmem S4096x256 .f32 := win0_0.stage (cfg0.slots t 0)
abbrev stage1 (t : Fin cfg0.N) : Memref sig .tc .vmem S512x4096 .f32 := win0_1.stage (cfg0.slots t 1)
abbrev stage2 (t : Fin cfg0.N) : Memref sig .tc .vmem S4096x256 .f32 := win0_2.stage (cfg0.slots t 2)
abbrev scratchV : Memref sig .tc .vmem S4096x256 .f32 := Memref.whole cc0_scratch0
abbrev scratchY : Memref sig .tc .vmem S4096x256 .f32 := Memref.whole cc0_scratch1

/-- What the launch hands over, with the scratch arrays owned. -/
theorem scratch_eq (c : Dev nD) :
    (Pipeline.ΦA spec0 c : sProp 𝕄)
      = iprop(iprop((∃ d, owns (c : Thread nD τ) scratchV fullShare d) ∗ (∃ d, owns (c : Thread nD τ) scratchY fullShare d)) ∗ (∃ r, prngReg c r)) := by
  unfold Pipeline.ΦA; rw [scopedRest0_eq]; simp only [scratchV, scratchY, owns_whole]; try rfl

/-- The window of the output, of which nothing is said. -/
def unsaid : Fin 3 → Bool := fun w => w.val == 2

/-- The proof data: the inputs' buffers keep their blocks, the output's is not named, the scratch arrays are at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- The arrays as the run finds them. -/
theorem A_eq (c : Dev nD) (w : Fin cfg0.W) : (dats m 0 c).A w = V m c (Pipeline.arrRef spec0 w) := by
  dsimp only [dats]

/-- The vectors' buffer keeps its block. -/
theorem after0 (c : Dev nD) (t : Fin cfg0.N) : (dats m 0 c).after 0 t = iblk m c 0 t := by dsimp only [dats]
/-- The matrix's buffer keeps its block. -/
theorem after1 (c : Dev nD) (t : Fin cfg0.N) : (dats m 0 c).after 1 t = iblk m c 1 t := by dsimp only [dats]

/-- The vectors' buffer is found at its block. -/
theorem before0 (c : Dev nD) (t : Fin cfg0.N) (d) : (dats m 0 c).before 0 t d = iblk m c 0 t :=
  before0_0_of m (dats m 0 c) (A_eq m c 0) (after0 m c) t d
/-- The matrix's buffer is found at its block. -/
theorem before1 (c : Dev nD) (t : Fin cfg0.N) (d) : (dats m 0 c).before 1 t d = iblk m c 1 t :=
  before0_1_of m (dats m 0 c) (A_eq m c 1) (after1 m c) t d

/-- The body's precondition at a point, its windows one by one. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare d))

/-- The body's postcondition at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (∃ d, owns (c : Thread nD τ) (stage2 t) fullShare d))

set_option maxHeartbeats 1600000 in
/-- The body at any point, as the pipeline asks for it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    show (dats m 0 c).leavesExact 0 t = owns (c : Thread nD τ) (stage0 t) fullShare (iblk m c 0 t) from rfl,
    show (dats m 0 c).leavesExact 1 t = owns (c : Thread nD τ) (stage1 t) fullShare (iblk m c 1 t) from rfl, scratch_eq]
  iintro ⟨⟨⟨HV, HY⟩, Hg⟩, Ho, ⟨%d0, H0⟩, ⟨%d1, H1⟩, H2⟩
  iapply (run_point c (stage0 t) _ (stage1 t) _ (stage2 t) _ scratchV _ scratchY _ (iblk m c 0 t) (iblk m c 1 t) t Set.univ _)
  isplitl [H0 H1 H2 HV HY]
  · isplitl [H0]; · iexact H0
    isplitl [H1]; · iexact H1
    isplitl [H2]; · iexact H2
    isplitl [HV]; · iexact HV
    iexact HY
  iintro ⟨H0, H1, H2, HV, HY⟩
  isplitl [HV HY Hg]
  · isplitl [HV HY]
    · isplitl [HV]; · iexact HV
      iexact HY
    iexact Hg
  isplitl [Ho]; · iexact Ho
  isplitl [H0]; · iexact H0
  isplitl [H1]; · iexact H1
  iexact H2

/-- The row of the table of bodies at a point is the body there. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
/-- The launch: the inputs' arrays end unchanged, every counter at zero. -/
theorem run_main : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_track_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The run leaves the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c))⟩, h.2⟩) (run_main m ρ)

end Cert.Kernel.KernelFrame
end
-- ==== Proof.Normalize.lean ====
module

public import proofs.«01_k».proof.Proof.Gen.KernelIdeal.Skeleton

/-!
# The normalization as the kernel computes it

A sweep of the kernel soft-thresholds the product `y`, squares it, adds the 512 blocks of eight rows of the square one
after the other, folds the eight rows that are left down to one, and divides by the root of the column sums (kept away from
zero). At the second sweep the blocks are added in one chain; at every later sweep and at the end in two chains, one over
the blocks of even number and one over the blocks of odd number. Here are the three as functions of `y`, and the printed
payloads as these functions.
-/

@[expose] public section

set_option maxRecDepth 65536

noncomputable section

namespace Cert.KernelIdeal.Norm

open Cert.KernelIdeal Cert.KernelIdeal.Gen
open Idealize.ShloMosaic Idealize.ShloMosaic.TcCoe

variable {F : FTy → Type} [FloatOps F]

/-- Eight rows starting at row `8 * (t % 512)` lie inside the 4096 rows. -/
theorem slices_block (t : ℕ) : S4096x256.Slices ![8 * (t % 512), 0] S8x256 := by
  refine ⟨rfl, fun a => ?_⟩
  have h : t % 512 < 512 := Nat.mod_lt _ (by decide)
  fin_cases a
  · show 8 * (t % 512) + 8 ≤ 4096
    omega
  · show 0 + 256 ≤ 256
    omega

/-- Block `t` of eight rows. -/
def block (w : FVec F S4096x256 .f32) (t : ℕ) : FVec F S8x256 .f32 :=
  extractStridedSlice S8x256 ![8 * (t % 512), 0] w (slices_block t)

/-- Blocks `0` to `n`, added in order. -/
def oneChain (w : FVec F S4096x256 .f32) : ℕ → FVec F S8x256 .f32
  | 0 => block w 0
  | n + 1 => addf (oneChain w n) (block w (n + 1))

/-- Blocks `o`, `2 + o`, …, `2 * n + o`, added in order. -/
def halfChain (w : FVec F S4096x256 .f32) (o : ℕ) : ℕ → FVec F S8x256 .f32
  | 0 => block w o
  | n + 1 => addf (halfChain w o n) (block w (2 * (n + 1) + o))

/-- The eight rows folded to one: rows `0..3` plus rows `4..7`, then two plus two, then one plus one. -/
def foldRows (a : FVec F S8x256 .f32) : FVec F S1x256 .f32 :=
  let b : FVec F S4x256 .f32 := addf (extractStridedSlice S4x256 ![0, 0] a slices_S8x256_o0_0_S4x256)
    (extractStridedSlice S4x256 ![4, 0] a slices_S8x256_o4_0_S4x256)
  let d : FVec F S2x256 .f32 := addf (extractStridedSlice S2x256 ![0, 0] b slices_S4x256_o0_0_S2x256)
    (extractStridedSlice S2x256 ![2, 0] b slices_S4x256_o2_0_S2x256)
  addf (extractStridedSlice S1x256 ![0, 0] d slices_S2x256_o0_0_S1x256)
    (extractStridedSlice S1x256 ![1, 0] d slices_S2x256_o1_0_S1x256)

/-- Every entry divided by the root of its column's sum, the root kept at or above the constant `9.99999996e-13`. -/
def divide (x : FVec F S4096x256 .f32) (sums : FVec F S1x256 .f32) : FVec F S4096x256 .f32 :=
  divf x (broadcastTo S4096x256
    (maximumf (sqrt sums) (broadcast S1x256 (Scalar.ofBits .f32 0x2B8CBCCC#32))) broadcasts_S1x256_S4096x256)

/-- The soft threshold: half a sign taken off every entry. -/
def soft (y : FVec F S4096x256 .f32) : FVec F S4096x256 .f32 :=
  subf y (mulf (broadcast S4096x256 (Scalar.ofBits .f32 0x3F000000#32))
    (select (cmpf .ogt (absf y) (broadcast S4096x256 (Scalar.ofBits .f32 0x00000000#32)))
      (select (cmpf .olt y (constant S4096x256 .f32 0x00000000#32)) (constant S4096x256 .f32 0xBF800000#32)
        (constant S4096x256 .f32 0x3F800000#32)) y))

/-- The entries of the soft threshold, squared. -/
def softSq (y : FVec F S4096x256 .f32) : FVec F S4096x256 .f32 := mulf (soft y) (soft y)

/-- The normalization at the second sweep, the blocks added in one chain. -/
def normFirst (y : FVec F S4096x256 .f32) : FVec F S4096x256 .f32 :=
  divide (soft y) (foldRows (oneChain (softSq y) 511))

/-- The normalization at the later sweeps and at the end, the blocks added in two chains. -/
def normLater (y : FVec F S4096x256 .f32) : FVec F S4096x256 .f32 :=
  divide (soft y) (foldRows (addf (halfChain (softSq y) 0 255) (halfChain (softSq y) 1 255)))

end Cert.KernelIdeal.Norm
end
-- ==== Proof.Body.lean ====
module

public import proofs.«01_k».proof.Proof.Gen.KernelIdeal.Frame
public import proofs.«01_k».proof.Proof.Gen.KernelIdeal.Skeleton
public import proofs.«01_k».proof.Proof.Normalize
public import Idealize.ShloMosaic.Lib.VecWindow
public import Idealize.ShloMosaic.Lib.Pipeline.Value

/-!
# One point of the grid

The kernel's body run at a point, for each combination of its branch conditions: what the two scratch arrays (the vectors
`v` and the product `y`) and, at the last point, the output hold afterwards, as functions of what they held before.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The point is the first of its sweep. -/
abbrev atStart (i : grid0.Coords) : Prop := (Scalar.cmpi .ne (Scalar.extui (Scalar.cmpi .eq (BitVec.ofNat 32 (i 1).val) 0#32)) 0#32) = 1#1
/-- The point is of the sweep 0. -/
abbrev sweep0 (i : grid0.Coords) : Prop := (Scalar.cmpi .ne (Scalar.extui (Scalar.cmpi .eq (BitVec.ofNat 32 (i 0).val) 0#32)) 0#32) = 1#1
/-- The point is of the sweep 1. -/
abbrev sweep1 (i : grid0.Coords) : Prop := (Scalar.cmpi .ne (Scalar.extui (Scalar.cmpi .eq (BitVec.ofNat 32 (i 0).val) 1#32)) 0#32) = 1#1
/-- The point is of a sweep after the sweep 1. -/
abbrev sweepLater (i : grid0.Coords) : Prop := (Scalar.cmpi .ne (Scalar.extui (Scalar.cmpi .sgt (BitVec.ofNat 32 (i 0).val) 1#32)) 0#32) = 1#1

/-- The load of a whole array. -/
abbrev wholeLoad : LoadRect S4096x256 := (Rect.unit ![0, 0] S4096x256.size inb_S4096x256_S4096x256_0_0).toLoadRect

/-- The store of a whole array. -/
abbrev wholePiece (x : Vec F S4096x256 .f32) : List (View.Piece (Elt F) S4096x256 .f32) :=
  [⟨Rect.unit ![0, 0] S4096x256.size inb_S4096x256_S4096x256_0_0, x⟩]

section Reads

variable {sg : RefSig} {κ : Kind}

/-- A whole buffer of an array held at contents reading `x`, loaded whole, gives `x`. -/
theorem load_array {arg : Memref sg κ .vmem S4096x256 .f32} (h : arg.IsWhole) (x : Vec F S4096x256 .f32) :
    View.readAt (Elt F) arg.view (Rect.unit ![0, 0] S4096x256.size inb_S4096x256_S4096x256_0_0).toLoadRect (h.unread x) = x := by
  rw [View.readAt_full, h.read_unread]

/-- A whole buffer of a block of rows held at contents reading `x`, loaded whole, gives `x`. -/
theorem load_rows {arg : Memref sg κ .vmem S512x4096 .f32} (h : arg.IsWhole) (x : Vec F S512x4096 .f32) :
    View.readAt (Elt F) arg.view (Rect.unit ![0, 0] S512x4096.size inb_S512x4096_S512x4096_0_0).toLoadRect (h.unread x) = x := by
  rw [View.readAt_full, h.read_unread]

end Reads

variable (c : Dev nD) (i : grid0.Coords) (arg2 : Memref sig .tc .vmem S4096x256 .f32) (harg2 : arg2.IsWhole)
  (arg3 : Memref sig .tc .vmem S512x4096 .f32) (harg3 : arg3.IsWhole) (arg4 : Memref sig .tc .vmem S4096x256 .f32) (harg4 : arg4.IsWhole)
  (arg5 : Memref sig .tc .vmem S4096x256 .f32) (harg5 : arg5.IsWhole) (arg6 : Memref sig .tc .vmem S4096x256 .f32) (harg6 : arg6.IsWhole)

/-- The inputs' buffers and the two scratch arrays, owned at given contents. -/
abbrev held (x2 : Vec F S4096x256 .f32) (x3 : Vec F S512x4096 .f32) (x5 x6 : Vec F S4096x256 .f32) : sProp 𝕄 :=
  iprop(owns (c : Thread nD τ) arg2 fullShare x2 ∗ owns (c : Thread nD τ) arg3 fullShare x3
    ∗ owns (c : Thread nD τ) arg5 fullShare x5 ∗ owns (c : Thread nD τ) arg6 fullShare x6)

variable {arg2 arg3 arg4 arg5 arg6} in
/-- Four buffers held at contents that read the four arrays. -/
theorem held_intro {x2 : Vec F S4096x256 .f32} {x3 : Vec F S512x4096 .f32} {x5 x6 : Vec F S4096x256 .f32}
    {f2 : arg2.view.ty.Contents (Elt F)} {f3 : arg3.view.ty.Contents (Elt F)} {f5 : arg5.view.ty.Contents (Elt F)}
    {f6 : arg6.view.ty.Contents (Elt F)} :
    iprop((arg2.view.loc (c : Thread nD τ) ↦[arg2.view.set]{fullShare} f2) ∗ (arg3.view.loc (c : Thread nD τ) ↦[arg3.view.set]{fullShare} f3)
        ∗ (arg5.view.loc (c : Thread nD τ) ↦[arg5.view.set]{fullShare} f5) ∗ (arg6.view.loc (c : Thread nD τ) ↦[arg6.view.set]{fullShare} f6)
        ∗ ⌜arg2.view.read (Elt F) f2 = x2 ∧ arg3.view.read (Elt F) f3 = x3 ∧ arg5.view.read (Elt F) f5 = x5 ∧ arg6.view.read (Elt F) f6 = x6⌝)
      ⊢ (held c arg2 arg3 arg5 arg6 x2 x3 x5 x6 : sProp 𝕄) := by
  unfold held owns
  iintro ⟨H2, H3, H5, H6, %e⟩
  obtain ⟨e2, e3, e5, e6⟩ := e
  isplitl [H2]
  · iexists f2; isplitr
    · ipureintro; exact e2
    · iexact H2
  isplitl [H3]
  · iexists f3; isplitr
    · ipureintro; exact e3
    · iexact H3
  isplitl [H5]
  · iexists f5; isplitr
    · ipureintro; exact e5
    · iexact H5
  · iexists f6; isplitr
    · ipureintro; exact e6
    · iexact H6

variable (x2 : Vec F S4096x256 .f32) (x3 : Vec F S512x4096 .f32) (x5 x6 : Vec F S4096x256 .f32) (E : Set ℕ)

set_option maxHeartbeats 2000000 in
/-- The first point of the sweep 0: `v` becomes the input, and the first rows of `y` its product. -/
theorem run_start0 (h1 : atStart i) (h2 : sweep0 i) (h3 : ¬ sweep1 i) (h4 : ¬ sweepLater i) (h5 : k0_cond5 i = 1#1) (h6 : ¬ k0_cond6 i = 1#1) (h7 : ¬ k0_cond7 i = 1#1)
    (K : PUnit → sProp 𝕄) :
    iprop(held c arg2 arg3 arg5 arg6 x2 x3 x5 x6
        ∗ (iprop(held c arg2 arg3 arg5 arg6 x2 x3 (x2) (VecWindow.put x6 (k0_off1 i) S512x256.size (k0_pay4 x3 (x2)))) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold held owns
  iintro ⟨⟨⟨%f2, %hf2, H2⟩, ⟨%f3, %hf3, H3⟩, ⟨%f5, %hf5, H5⟩, ⟨%f6, %hf6, H6⟩⟩, Hk⟩
  obtain rfl := harg2.eq_unread hf2; obtain rfl := harg3.eq_unread hf3; obtain rfl := harg5.eq_unread hf5; obtain rfl := harg6.eq_unread hf6
  sl_exec (disch := first | sl_exact h1 | sl_exact h2 | sl_exact h3 | sl_exact h4 | sl_exact h5 | sl_exact h6 | sl_exact h7)
  sl_step
  iapply Hk
  have eH : run_start0.sl.H5_1 c arg2 harg2 x2 = wholePiece x2 :=
    Eq.trans (b := wholePiece (shapeCast S4096x256 (View.readAt (Elt F) arg2.view wholeLoad (harg2.unread x2))
      shapeCasts_S4096x256_S4096x256)) rfl (by rw [load_array]; exact congrArg wholePiece (shapeCast_self _ _))
  have eL : run_start0.sl.v16_1 c arg2 harg2 arg5 x2 = x2 := by
    unfold run_start0.sl.v16_1; rw [eH]; exact View.readCov_full _ _ _ _ _
  iapply held_intro c
  isplitl [H2]
  · iexact H2
  isplitl [H3]
  · iexact H3
  isplitl [H5]
  · iexact H5
  isplitl [H6]
  · iexact H6
  ipureintro
  exact ⟨harg2.read_unread _, harg3.read_unread _, (by rw [eH]; exact View.read_writes_full _ _ _ _ _), (by rw [View.read_writes_cons_put _ _ _ _ _ rfl, View.writes_nil, harg6.read_unread, load_rows, eL])⟩

set_option maxHeartbeats 2000000 in
/-- A later point of the sweep 0: the next rows of `y`. -/
theorem run_mid0 (h1 : ¬ atStart i) (h5 : k0_cond5 i = 1#1) (h6 : ¬ k0_cond6 i = 1#1) (h7 : ¬ k0_cond7 i = 1#1)
    (K : PUnit → sProp 𝕄) :
    iprop(held c arg2 arg3 arg5 arg6 x2 x3 x5 x6
        ∗ (iprop(held c arg2 arg3 arg5 arg6 x2 x3 (x5) (VecWindow.put x6 (k0_off1 i) S512x256.size (k0_pay4 x3 (x5)))) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold held owns
  iintro ⟨⟨⟨%f2, %hf2, H2⟩, ⟨%f3, %hf3, H3⟩, ⟨%f5, %hf5, H5⟩, ⟨%f6, %hf6, H6⟩⟩, Hk⟩
  obtain rfl := harg2.eq_unread hf2; obtain rfl := harg3.eq_unread hf3; obtain rfl := harg5.eq_unread hf5; obtain rfl := harg6.eq_unread hf6
  sl_exec (disch := first | sl_exact h1 | sl_exact h5 | sl_exact h6 | sl_exact h7)
  sl_step
  iapply Hk
  iapply held_intro c
  isplitl [H2]
  · iexact H2
  isplitl [H3]
  · iexact H3
  isplitl [H5]
  · iexact H5
  isplitl [H6]
  · iexact H6
  ipureintro
  exact ⟨harg2.read_unread _, harg3.read_unread _, harg5.read_unread _, (by rw [View.read_writes_cons_put _ _ _ _ _ rfl, View.writes_nil, harg6.read_unread, load_rows, load_array])⟩

set_option maxHeartbeats 2000000 in
/-- The first point of the sweep 1: `v` becomes `y` normalized by one chain, and the first rows of `y` its product. -/
theorem run_start1 (h1 : atStart i) (h2 : ¬ sweep0 i) (h3 : sweep1 i) (h4 : ¬ sweepLater i) (h5 : ¬ k0_cond5 i = 1#1) (h6 : k0_cond6 i = 1#1) (h7 : ¬ k0_cond7 i = 1#1)
    (K : PUnit → sProp 𝕄) :
    iprop(held c arg2 arg3 arg5 arg6 x2 x3 x5 x6
        ∗ (iprop(held c arg2 arg3 arg5 arg6 x2 x3 (Norm.normFirst x6) (VecWindow.put x6 (k0_off2 i) S512x256.size (k0_pay5 x3 (Norm.normFirst x6)))) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold held owns
  iintro ⟨⟨⟨%f2, %hf2, H2⟩, ⟨%f3, %hf3, H3⟩, ⟨%f5, %hf5, H5⟩, ⟨%f6, %hf6, H6⟩⟩, Hk⟩
  obtain rfl := harg2.eq_unread hf2; obtain rfl := harg3.eq_unread hf3; obtain rfl := harg5.eq_unread hf5; obtain rfl := harg6.eq_unread hf6
  sl_exec (disch := first | sl_exact h1 | sl_exact h2 | sl_exact h3 | sl_exact h4 | sl_exact h5 | sl_exact h6 | sl_exact h7)
  sl_step
  iapply Hk
  have eH : run_start1.sl.H5_1 c arg6 harg6 x6 = wholePiece (Norm.normFirst x6) :=
    Eq.trans (b := wholePiece (shapeCast S4096x256 (Norm.normFirst (View.readAt (Elt F) arg6.view wholeLoad (harg6.unread x6)))
      shapeCasts_S4096x256_S4096x256)) rfl (by rw [load_array, shapeCast_self])
  have eL : run_start1.sl.v15_1 c arg5 arg6 harg6 x6 = Norm.normFirst x6 := by
    unfold run_start1.sl.v15_1; rw [eH]; exact View.readCov_full _ _ _ _ _
  iapply held_intro c
  isplitl [H2]
  · iexact H2
  isplitl [H3]
  · iexact H3
  isplitl [H5]
  · iexact H5
  isplitl [H6]
  · iexact H6
  ipureintro
  exact ⟨harg2.read_unread _, harg3.read_unread _, (by rw [eH]; exact View.read_writes_full _ _ _ _ _), (by rw [View.read_writes_cons_put _ _ _ _ _ rfl, View.writes_nil, harg6.read_unread, load_rows, eL])⟩

set_option maxHeartbeats 2000000 in
/-- The first point of a sweep after the sweep 1: `v` becomes `y` normalized by two chains, and the first rows of `y` its product. -/
theorem run_startLater (h1 : atStart i) (h2 : ¬ sweep0 i) (h3 : ¬ sweep1 i) (h4 : sweepLater i) (h5 : ¬ k0_cond5 i = 1#1) (h6 : k0_cond6 i = 1#1) (h7 : ¬ k0_cond7 i = 1#1)
    (K : PUnit → sProp 𝕄) :
    iprop(held c arg2 arg3 arg5 arg6 x2 x3 x5 x6
        ∗ (iprop(held c arg2 arg3 arg5 arg6 x2 x3 (Norm.normLater x6) (VecWindow.put x6 (k0_off2 i) S512x256.size (k0_pay5 x3 (Norm.normLater x6)))) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold held owns
  iintro ⟨⟨⟨%f2, %hf2, H2⟩, ⟨%f3, %hf3, H3⟩, ⟨%f5, %hf5, H5⟩, ⟨%f6, %hf6, H6⟩⟩, Hk⟩
  obtain rfl := harg2.eq_unread hf2; obtain rfl := harg3.eq_unread hf3; obtain rfl := harg5.eq_unread hf5; obtain rfl := harg6.eq_unread hf6
  sl_exec (disch := first | sl_exact h1 | sl_exact h2 | sl_exact h3 | sl_exact h4 | sl_exact h5 | sl_exact h6 | sl_exact h7)
  sl_step
  iapply Hk
  have eH : run_startLater.sl.H5_1 c arg6 harg6 x6 = wholePiece (Norm.normLater x6) :=
    Eq.trans (b := wholePiece (shapeCast S4096x256 (Norm.normLater (View.readAt (Elt F) arg6.view wholeLoad (harg6.unread x6)))
      shapeCasts_S4096x256_S4096x256)) rfl (by rw [load_array, shapeCast_self])
  have eL : run_startLater.sl.v15_1 c arg5 arg6 harg6 x6 = Norm.normLater x6 := by
    unfold run_startLater.sl.v15_1; rw [eH]; exact View.readCov_full _ _ _ _ _
  iapply held_intro c
  isplitl [H2]
  · iexact H2
  isplitl [H3]
  · iexact H3
  isplitl [H5]
  · iexact H5
  isplitl [H6]
  · iexact H6
  ipureintro
  exact ⟨harg2.read_unread _, harg3.read_unread _, (by rw [eH]; exact View.read_writes_full _ _ _ _ _), (by rw [View.read_writes_cons_put _ _ _ _ _ rfl, View.writes_nil, harg6.read_unread, load_rows, eL])⟩

set_option maxHeartbeats 2000000 in
/-- A later point of a sweep after the sweep 0, not the last of all: the next rows of `y`. -/
theorem run_midLater (h1 : ¬ atStart i) (h5 : ¬ k0_cond5 i = 1#1) (h6 : k0_cond6 i = 1#1) (h7 : ¬ k0_cond7 i = 1#1)
    (K : PUnit → sProp 𝕄) :
    iprop(held c arg2 arg3 arg5 arg6 x2 x3 x5 x6
        ∗ (iprop(held c arg2 arg3 arg5 arg6 x2 x3 (x5) (VecWindow.put x6 (k0_off2 i) S512x256.size (k0_pay5 x3 (x5)))) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold held owns
  iintro ⟨⟨⟨%f2, %hf2, H2⟩, ⟨%f3, %hf3, H3⟩, ⟨%f5, %hf5, H5⟩, ⟨%f6, %hf6, H6⟩⟩, Hk⟩
  obtain rfl := harg2.eq_unread hf2; obtain rfl := harg3.eq_unread hf3; obtain rfl := harg5.eq_unread hf5; obtain rfl := harg6.eq_unread hf6
  sl_exec (disch := first | sl_exact h1 | sl_exact h5 | sl_exact h6 | sl_exact h7)
  sl_step
  iapply Hk
  iapply held_intro c
  isplitl [H2]
  · iexact H2
  isplitl [H3]
  · iexact H3
  isplitl [H5]
  · iexact H5
  isplitl [H6]
  · iexact H6
  ipureintro
  exact ⟨harg2.read_unread _, harg3.read_unread _, harg5.read_unread _, (by rw [View.read_writes_cons_put _ _ _ _ _ rfl, View.writes_nil, harg6.read_unread, load_rows, load_array])⟩

set_option maxHeartbeats 2000000 in
/-- The last point of all: the last rows of `y`, and the output, `y` normalized by two chains. -/
theorem run_last (h1 : ¬ atStart i) (h5 : ¬ k0_cond5 i = 1#1) (h6 : k0_cond6 i = 1#1) (h7 : k0_cond7 i = 1#1)
    (K : PUnit → sProp 𝕄) :
    iprop(held c arg2 arg3 arg5 arg6 x2 x3 x5 x6 ∗ (∃ d, owns (c : Thread nD τ) arg4 fullShare d)
        ∗ (iprop(held c arg2 arg3 arg5 arg6 x2 x3 (x5) (VecWindow.put x6 (k0_off2 i) S512x256.size (k0_pay5 x3 (x5))) ∗ owns (c : Thread nD τ) arg4 fullShare (Norm.normLater (VecWindow.put x6 (k0_off2 i) S512x256.size (k0_pay5 x3 (x5))))) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold held owns
  iintro ⟨⟨⟨%f2, %hf2, H2⟩, ⟨%f3, %hf3, H3⟩, ⟨%f5, %hf5, H5⟩, ⟨%f6, %hf6, H6⟩⟩, ⟨%d4, %f4, %hf4, H4⟩, Hk⟩
  obtain rfl := harg2.eq_unread hf2; obtain rfl := harg3.eq_unread hf3; obtain rfl := harg5.eq_unread hf5; obtain rfl := harg6.eq_unread hf6
  sl_exec (disch := first | sl_exact h1 | sl_exact h5 | sl_exact h6 | sl_exact h7)
  sl_step
  iapply Hk
  have e6 : View.read (Elt F) arg6.view (arg6.view.writes (Elt F) (harg6.unread x6) (run_last.sl.H6_1 c i arg3 harg3 arg5 harg5 x3 x5 h6))
      = VecWindow.put x6 (k0_off2 i) S512x256.size (k0_pay5 x3 x5) := by
    unfold run_last.sl.H6_1
    rw [View.read_writes_cons_put _ _ _ _ _ rfl, View.writes_nil, harg6.read_unread, load_rows, load_array]
  have eOut : k0_pay6 (run_last.sl.r c i arg3 harg3 arg5 harg5 arg6 harg6 x3 x5 x6 h6) (run_last.sl.r_1 c i arg3 harg3 arg5 harg5 arg6 harg6 x3 x5 x6 h6)
      (run_last.sl.r_34 c i arg3 harg3 arg5 harg5 arg6 harg6 x3 x5 x6 h6) (run_last.sl.r_35 c i arg3 harg3 arg5 harg5 arg6 harg6 x3 x5 x6 h6)
      = Norm.normLater (VecWindow.put x6 (k0_off2 i) S512x256.size (k0_pay5 x3 x5)) :=
    Eq.trans (b := Norm.normLater (View.readAt (Elt F) arg6.view wholeLoad
      (arg6.view.writes (Elt F) (harg6.unread x6) (run_last.sl.H6_1 c i arg3 harg3 arg5 harg5 x3 x5 h6)))) rfl (by rw [View.readAt_full, e6])
  isplitr [H4]
  swap
  · iexists _
    isplitr
    swap
    · iexact H4
    · ipureintro
      exact (View.read_writes_full _ _ _ _ _).trans eOut
  iapply held_intro c
  isplitl [H2]
  · iexact H2
  isplitl [H3]
  · iexact H3
  isplitl [H5]
  · iexact H5
  isplitl [H6]
  · iexact H6
  ipureintro
  exact ⟨harg2.read_unread _, harg3.read_unread _, harg5.read_unread _, e6⟩

end Cert.KernelIdeal.Body
end
-- ==== Proof.Sweeps.lean ====
module

public import proofs.«01_k».proof.Proof.Normalize
public import Idealize.ShloMosaic.Lib.VecWindow
public import Idealize.ShloMosaic.Lib.Pointwise.Index

/-!
# The ten sweeps as values

Sweep `n` multiplies the whole matrix by the vectors `vAt n`, 512 rows at a point; the next sweep starts from the normalized
product. `Inv p v y` says what the two scratch arrays hold before point `p`: the vectors of the sweep of the point before, and
of the product the rows done so far.
-/

@[expose] public section

set_option maxRecDepth 16384

noncomputable section

namespace Cert.KernelIdeal.Sweeps

open Cert.KernelIdeal Cert.KernelIdeal.Gen
open Idealize.ShloMosaic Idealize.ShloMosaic.TcCoe

variable {F : FTy → Type} [FloatOps F]

/-- Rows `512 * j` to `512 * j + 511` of the matrix. -/
def rowBlock (a : Vec F S4096x4096 .f32) (j : ℕ) : Vec F S512x4096 .f32 := fun i =>
  a (ix2 ⟨512 * (j % 8) + (i 0).val, by have : (i 0).val < 512 := (i 0).isLt; omega⟩ (i 1))

/-- The rows of the product that one point of sweep `n` computes. -/
def rowProduct (n : ℕ) (l : Vec F S512x4096 .f32) (v : Vec F S4096x256 .f32) : Vec F S512x256 .f32 :=
  if n = 0 then k0_pay4 l v else k0_pay5 l v

/-- The whole product of sweep `n`, put together from its blocks of rows. -/
def product (n : ℕ) (a : Vec F S4096x4096 .f32) (v : Vec F S4096x256 .f32) : Vec F S4096x256 .f32 := fun i =>
  rowProduct n (rowBlock a ((i 0).val / 512)) v (ix2 ⟨(i 0).val % 512, Nat.mod_lt _ (by decide)⟩ (i 1))

variable (x : Vec F S4096x256 .f32) (a : Vec F S4096x4096 .f32)

/-- The vectors that sweep `n` multiplies. -/
def vAt : ℕ → Vec F S4096x256 .f32
  | 0 => x
  | 1 => Norm.normFirst (product 0 a x)
  | n + 2 => Norm.normLater (product (n + 1) a (vAt (n + 1)))

/-- The product of sweep `n`. -/
def yAt (n : ℕ) : Vec F S4096x256 .f32 := product n a (vAt x a n)

/-- What the scratch arrays hold before point `p`. -/
def Inv (p : ℕ) (v y : Vec F S4096x256 .f32) : Prop :=
  p ≠ 0 → v = vAt x a ((p - 1) / 8) ∧ ∀ i : S4096x256.Idx, (i 0).val < 512 * ((p - 1) % 8 + 1) → y i = yAt x a ((p - 1) / 8) i

/-- Before the first point nothing is asked. -/
theorem Inv.zero (v y : Vec F S4096x256 .f32) : Inv x a 0 v y := fun h => absurd rfl h

variable {x a}

/-- Within a sweep the vectors stay. -/
theorem Inv.vec {p : ℕ} {v y : Vec F S4096x256 .f32} (h : Inv x a p v y) (hp : p % 8 ≠ 0) : v = vAt x a (p / 8) := by
  have e : (p - 1) / 8 = p / 8 := by omega
  exact e ▸ (h (by omega)).1

/-- Within a sweep the rows of the points before are done. -/
theorem Inv.rows {p : ℕ} {v y : Vec F S4096x256 .f32} (h : Inv x a p v y) (hp : p % 8 ≠ 0) (i : S4096x256.Idx)
    (hi : (i 0).val < 512 * (p % 8)) : y i = yAt x a (p / 8) i := by
  have e : (p - 1) / 8 = p / 8 := by omega
  exact e ▸ (h (by omega)).2 i (by omega)

/-- At the start of a sweep after the first, the product of the sweep before is whole. -/
theorem Inv.whole {p n : ℕ} {v y : Vec F S4096x256 .f32} (h : Inv x a p v y) (hp : p = 8 * (n + 1)) : y = yAt x a n := by
  funext i
  have e : (p - 1) / 8 = n := by omega
  have hi : (i 0).val < 4096 := (i 0).isLt
  exact e ▸ (h (by omega)).2 i (by omega)

/-- A point done: with the vectors of its sweep, and the rows of the points before, its own rows put in their place. -/
theorem Inv.step {p : ℕ} {v y : Vec F S4096x256 .f32} {off : Fin 2 → ℕ} (hoff : off = ![512 * (p % 8), 0])
    {w : Vec F S512x256 .f32} (hv : v = vAt x a (p / 8)) (hw : w = rowProduct (p / 8) (rowBlock a (p % 8)) v)
    (hy : ∀ i : S4096x256.Idx, (i 0).val < 512 * (p % 8) → y i = yAt x a (p / 8) i) :
    Inv x a (p + 1) v (VecWindow.put y off S512x256.size w) := by
  subst hoff hv hw
  intro _
  refine ⟨by rw [Nat.add_sub_cancel], fun i hi => ?_⟩
  rw [Nat.add_sub_cancel] at hi ⊢
  have h1 : (i 1).val < 256 := (i 1).isLt
  unfold VecWindow.put
  split_ifs with h
  · have h0 := h 0
    have hlo : 512 * (p % 8) ≤ (i 0).val := h0.1
    have ej : (i 0).val / 512 = p % 8 := by omega
    unfold yAt product
    rw [ej]
    congr 1
    funext b
    apply Fin.ext
    match b with
    | ⟨0, _⟩ =>
      show (i 0).val - 512 * (p % 8) = (i 0).val % 512
      omega
    | ⟨1, _⟩ =>
      show (i 1).val - 0 = (i 1).val
      omega
  · refine hy i ?_
    by_contra hc
    apply h
    intro b
    match b with
    | ⟨0, _⟩ =>
      show 512 * (p % 8) ≤ (i 0).val ∧ (i 0).val < 512 * (p % 8) + 512
      omega
    | ⟨1, _⟩ =>
      show 0 ≤ (i 1).val ∧ (i 1).val < 0 + 256
      omega

end Cert.KernelIdeal.Sweeps
end
-- ==== Proof.Point.lean ====
module

public import proofs.«01_k».proof.Proof.Body
public import proofs.«01_k».proof.Proof.Sweeps

/-!
# The points of the grid in order

The branch conditions of the body at point `t`, the blocks it is given, and the body at any point but the last: it takes the
invariant of the sweeps from before `t` to before `t + 1`.
-/

@[expose] public section

set_option maxRecDepth 16384

noncomputable section

namespace Cert.KernelIdeal.Point

open Cert.KernelIdeal Cert.KernelIdeal.Gen Cert.KernelIdeal.Body Cert.KernelIdeal.Sweeps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! ## The conditions -/

/-- Where the first point of a sweep is. -/
theorem atStart_iff : ∀ t : Fin grid0.N, atStart (grid0.coords t) ↔ t.val % 8 = 0 := by decide +kernel
/-- Where the sweep 0 is. -/
theorem sweep0_iff : ∀ t : Fin grid0.N, sweep0 (grid0.coords t) ↔ t.val / 8 = 0 := by decide +kernel
/-- Where the sweep 1 is. -/
theorem sweep1_iff : ∀ t : Fin grid0.N, sweep1 (grid0.coords t) ↔ t.val / 8 = 1 := by decide +kernel
/-- Where the sweeps after the sweep 1 are. -/
theorem sweepLater_iff : ∀ t : Fin grid0.N, sweepLater (grid0.coords t) ↔ 1 < t.val / 8 := by decide +kernel
/-- Where the product is that of the sweep 0. -/
theorem cond5_iff : ∀ t : Fin grid0.N, k0_cond5 (grid0.coords t) = 1#1 ↔ t.val / 8 = 0 := by decide +kernel
/-- Where the product is that of a later sweep. -/
theorem cond6_iff : ∀ t : Fin grid0.N, k0_cond6 (grid0.coords t) = 1#1 ↔ 0 < t.val / 8 := by decide +kernel
/-- Where the output is stored. -/
theorem cond7_iff : ∀ t : Fin grid0.N, k0_cond7 (grid0.coords t) = 1#1 ↔ t.val = 79 := by decide +kernel
/-- Where the rows of a point of the sweep 0 are put. -/
theorem off1_eq : ∀ t : Fin grid0.N, k0_off1 (grid0.coords t) = ![512 * (t.val % 8), 0] := by decide +kernel
/-- Where the rows of a point of a later sweep are put. -/
theorem off2_eq : ∀ t : Fin grid0.N, k0_off2 (grid0.coords t) = ![512 * (t.val % 8), 0] := by decide +kernel
/-- Which block of rows of the matrix a point is given. -/
theorem transform1_eq : ∀ t : Fin grid0.N, cc0_transform_1 (grid0.coords t) = ![t.val % 8, 0] := by decide +kernel

/-! ## The blocks -/

variable (m : (ℓ : Loc nD τ sig) → Buf (Elt F) ℓ) (c : Dev nD)

/-- The vectors as launched. -/
abbrev vecs : Vec F S4096x256 .f32 := m ((c : Thread nD τ).loc main_arg0)
/-- The matrix as launched. -/
abbrev mat : Vec F S4096x4096 .f32 := m ((c : Thread nD τ).loc main_arg1)

/-- The block of the vectors is all of them. -/
theorem iblk0 (t : Fin cfg0.N) : (iblk m c 0 t : Vec F S4096x256 .f32) = vecs m c := by
  funext i
  show vecs m c ((win0_0.rect t).emb i) = vecs m c i
  congr 1
  funext b
  apply Fin.ext
  match b with
  | ⟨0, _⟩ => show 0 * 4096 + 1 * (i 0).val = (i 0).val; omega
  | ⟨1, _⟩ => show 0 * 256 + 1 * (i 1).val = (i 1).val; omega

/-- The block of the matrix is the point's rows. -/
theorem iblk1 (t : Fin cfg0.N) : (iblk m c 1 t : Vec F S512x4096 .f32) = rowBlock (mat m c) (t.val % 8) := by
  funext i
  show mat m c ((win0_1.rect t).emb i) = mat m c _
  congr 1
  funext b
  apply Fin.ext
  have e0 : cc0_transform_1 (grid0.coords t) 0 = t.val % 8 := congrFun (transform1_eq t) 0
  match b with
  | ⟨0, _⟩ =>
    show cc0_transform_1 (grid0.coords t) 0 * 512 + 1 * (i 0).val = 512 * (t.val % 8 % 8) + (i 0).val
    omega
  | ⟨1, _⟩ => show 0 * 4096 + 1 * (i 1).val = (i 1).val; omega

/-! ## The body at a point that is not the last -/

variable (arg2 : Memref sig .tc .vmem S4096x256 .f32) (harg2 : arg2.IsWhole)
  (arg3 : Memref sig .tc .vmem S512x4096 .f32) (harg3 : arg3.IsWhole) (arg4 : Memref sig .tc .vmem S4096x256 .f32) (harg4 : arg4.IsWhole)
  (arg5 : Memref sig .tc .vmem S4096x256 .f32) (harg5 : arg5.IsWhole) (arg6 : Memref sig .tc .vmem S4096x256 .f32) (harg6 : arg6.IsWhole)
  (x : Vec F S4096x256 .f32) (a : Vec F S4096x4096 .f32)

/-- The buffers with the scratch arrays as the sweeps leave them before point `p`. -/
abbrev sweeping (p j : ℕ) : sProp 𝕄 :=
  iprop(∃ v y, ⌜Inv x a p v y⌝ ∗ held c arg2 arg3 arg5 arg6 x (rowBlock a j) v y)

/-- A triple that ends with the scratch arrays at `v'` and `y'` ends with the sweeps' invariant, when these satisfy it. -/
theorem to_sweeping {p j : ℕ} {v' y' : Vec F S4096x256 .f32} (h : Inv x a p v' y') (K : PUnit → sProp 𝕄) :
    iprop(iprop(sweeping c arg2 arg3 arg5 arg6 x a p j) -∗ K ⟨⟩)
      ⊢ iprop(iprop(held c arg2 arg3 arg5 arg6 x (rowBlock a j) v' y') -∗ K ⟨⟩) := by
  iintro Hk H
  iapply Hk
  iexists v', y'
  isplitr
  · ipureintro; exact h
  · iexact H

/-- The body at a point that is not the last. -/
theorem run_point (t : Fin grid0.N) (ht : t.val ≠ 79) (E : Set ℕ) (K : PUnit → sProp 𝕄) :
    iprop(sweeping c arg2 arg3 arg5 arg6 x a t.val (t.val % 8)
        ∗ (iprop(sweeping c arg2 arg3 arg5 arg6 x a (t.val + 1) (t.val % 8)) -∗ K ⟨⟩))
      ⊢ wp frame (wpE (defs₀ (F := F)) Variants.none c none) E
          (cc0__body (grid0.coords t) arg2 harg2 arg3 harg3 arg4 harg4 arg5 harg5 arg6 harg6) K := by
  iintro ⟨⟨%v, %y, %hI, H⟩, Hk⟩
  have h7 : ¬ k0_cond7 (grid0.coords t) = 1#1 := fun h => ht ((cond7_iff t).mp h)
  have hrows0 : t.val % 8 = 0 → ∀ (n : ℕ) (i : S4096x256.Idx), (i 0).val < 512 * (t.val % 8) → y i = yAt x a n i :=
    fun h n i hi => by omega
  by_cases hs : t.val % 8 = 0
  · have h1 := (atStart_iff t).mpr hs
    by_cases hn0 : t.val / 8 = 0
    · have h2 := (sweep0_iff t).mpr hn0
      have h3 : ¬ sweep1 (grid0.coords t) := fun h => by have := (sweep1_iff t).mp h; omega
      have h4 : ¬ sweepLater (grid0.coords t) := fun h => by have := (sweepLater_iff t).mp h; omega
      have h5 := (cond5_iff t).mpr hn0
      have h6 : ¬ k0_cond6 (grid0.coords t) = 1#1 := fun h => by have := (cond6_iff t).mp h; omega
      iapply (run_start0 c (grid0.coords t) arg2 harg2 arg3 harg3 arg4 harg4 arg5 harg5 arg6 harg6 x (rowBlock a (t.val % 8)) v y E
        h1 h2 h3 h4 h5 h6 h7 K)
      isplitl [H]
      · iexact H
      iapply (to_sweeping c arg2 arg3 arg5 arg6 x a (Inv.step (off1_eq t) (by rw [hn0]; rfl) (by rw [hn0]; rfl) (hrows0 hs _)) K)
      iexact Hk
    · have h2 : ¬ sweep0 (grid0.coords t) := fun h => hn0 ((sweep0_iff t).mp h)
      have h5 : ¬ k0_cond5 (grid0.coords t) = 1#1 := fun h => hn0 ((cond5_iff t).mp h)
      have h6 := (cond6_iff t).mpr (Nat.pos_of_ne_zero hn0)
      by_cases hn1 : t.val / 8 = 1
      · have h3 := (sweep1_iff t).mpr hn1
        have h4 : ¬ sweepLater (grid0.coords t) := fun h => by have := (sweepLater_iff t).mp h; omega
        have ey : y = yAt x a 0 := hI.whole (n := 0) (by omega)
        iapply (run_start1 c (grid0.coords t) arg2 harg2 arg3 harg3 arg4 harg4 arg5 harg5 arg6 harg6 x (rowBlock a (t.val % 8)) v y E
          h1 h2 h3 h4 h5 h6 h7 K)
        isplitl [H]
        · iexact H
        iapply (to_sweeping c arg2 arg3 arg5 arg6 x a
          (Inv.step (off2_eq t) (by rw [hn1, ey]; rfl) (by rw [hn1]; rfl) (hrows0 hs _)) K)
        iexact Hk
      · have h3 : ¬ sweep1 (grid0.coords t) := fun h => hn1 ((sweep1_iff t).mp h)
        have h4 := (sweepLater_iff t).mpr (by omega)
        obtain ⟨n, hn⟩ : ∃ n, t.val / 8 = n + 2 := ⟨t.val / 8 - 2, by omega⟩
        have ey : y = yAt x a (n + 1) := hI.whole (n := n + 1) (by omega)
        iapply (run_startLater c (grid0.coords t) arg2 harg2 arg3 harg3 arg4 harg4 arg5 harg5 arg6 harg6 x (rowBlock a (t.val % 8)) v y E
          h1 h2 h3 h4 h5 h6 h7 K)
        isplitl [H]
        · iexact H
        iapply (to_sweeping c arg2 arg3 arg5 arg6 x a
          (Inv.step (off2_eq t) (by rw [hn, ey]; rfl) (by rw [hn]; rfl) (hrows0 hs _)) K)
        iexact Hk
  · have h1 : ¬ atStart (grid0.coords t) := fun h => hs ((atStart_iff t).mp h)
    by_cases hn0 : t.val / 8 = 0
    · have h5 := (cond5_iff t).mpr hn0
      have h6 : ¬ k0_cond6 (grid0.coords t) = 1#1 := fun h => by have := (cond6_iff t).mp h; omega
      iapply (run_mid0 c (grid0.coords t) arg2 harg2 arg3 harg3 arg4 harg4 arg5 harg5 arg6 harg6 x (rowBlock a (t.val % 8)) v y E
        h1 h5 h6 h7 K)
      isplitl [H]
      · iexact H
      iapply (to_sweeping c arg2 arg3 arg5 arg6 x a (Inv.step (off1_eq t) (hI.vec hs) (by rw [hn0]; rfl) (hI.rows hs)) K)
      iexact Hk
    · have h5 : ¬ k0_cond5 (grid0.coords t) = 1#1 := fun h => hn0 ((cond5_iff t).mp h)
      have h6 := (cond6_iff t).mpr (Nat.pos_of_ne_zero hn0)
      iapply (run_midLater c (grid0.coords t) arg2 harg2 arg3 harg3 arg4 harg4 arg5 harg5 arg6 harg6 x (rowBlock a (t.val % 8)) v y E
        h1 h5 h6 h7 K)
      isplitl [H]
      · iexact H
      iapply (to_sweeping c arg2 arg3 arg5 arg6 x a
        (Inv.step (off2_eq t) (hI.vec hs) (by unfold rowProduct; rw [if_neg hn0]) (hI.rows hs)) K)
      iexact Hk

/-- The body at the last point: the output ends at the last product, normalized. -/
theorem run_final (t : Fin grid0.N) (ht : t.val = 79) (E : Set ℕ) (K : PUnit → sProp 𝕄) :
    iprop(sweeping c arg2 arg3 arg5 arg6 x a t.val (t.val % 8) ∗ (∃ d, owns (c : Thread nD τ) arg4 fullShare d)
        ∗ (iprop(sweeping c arg2 arg3 arg5 arg6 x a (t.val + 1) (t.val % 8)
            ∗ owns (c : Thread nD τ) arg4 fullShare (Norm.normLater (yAt x a 9))) -∗ K ⟨⟩))
      ⊢ wp frame (wpE (defs₀ (F := F)) Variants.none c none) E
          (cc0__body (grid0.coords t) arg2 harg2 arg3 harg3 arg4 harg4 arg5 harg5 arg6 harg6) K := by
  iintro ⟨⟨%v, %y, %hI, H⟩, H4, Hk⟩
  have hs : t.val % 8 ≠ 0 := by omega
  have h1 : ¬ atStart (grid0.coords t) := fun h => hs ((atStart_iff t).mp h)
  have hn0 : t.val / 8 ≠ 0 := by omega
  have h5 : ¬ k0_cond5 (grid0.coords t) = 1#1 := fun h => hn0 ((cond5_iff t).mp h)
  have h6 := (cond6_iff t).mpr (Nat.pos_of_ne_zero hn0)
  have h7 := (cond7_iff t).mpr ht
  have hI' : Inv x a (t.val + 1) v (VecWindow.put y (k0_off2 (grid0.coords t)) S512x256.size (k0_pay5 (rowBlock a (t.val % 8)) v)) :=
    Inv.step (off2_eq t) (hI.vec hs) (by unfold rowProduct; rw [if_neg hn0]) (hI.rows hs)
  have ey := hI'.whole (n := 9) (by omega)
  iapply (run_last c (grid0.coords t) arg2 harg2 arg3 harg3 arg4 harg4 arg5 harg5 arg6 harg6 x (rowBlock a (t.val % 8)) v y E
    h1 h5 h6 h7 K)
  isplitl [H]
  · iexact H
  isplitl [H4]
  · iexact H4
  iintro ⟨H, H4⟩
  iapply Hk
  isplitl [H]
  · iexists _, _
    isplitr
    swap
    · iexact H
    · ipureintro; exact hI'
  · rw [← ey]
    iexact H4

end Cert.KernelIdeal.Point
end
-- ==== Proof.Run.lean ====
module

public import proofs.«01_k».proof.Proof.Point
public import Idealize.ShloMosaic.Lib.Claim

/-!
# The whole run

The pipeline's proof data: before point `p` the scratch arrays are as the ten sweeps leave them, and the one write-back, at the last
point, is the last product normalized. From it the run of the kernel: every execution ends, the arguments unchanged, the
counters at zero, the result at that value.
-/

@[expose] public section

set_option maxRecDepth 16384

noncomputable section

namespace Cert.KernelIdeal.Run

open Cert.KernelIdeal Cert.KernelIdeal.Gen Cert.KernelIdeal.Body Cert.KernelIdeal.Sweeps Cert.KernelIdeal.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The staging buffers of a point, and the scratch arrays. -/
abbrev stage0 (t : Fin cfg0.N) : Memref sig .tc .vmem S4096x256 .f32 := win0_0.stage (cfg0.slots t 0)
abbrev stage1 (t : Fin cfg0.N) : Memref sig .tc .vmem S512x4096 .f32 := win0_1.stage (cfg0.slots t 1)
abbrev stage2 (t : Fin cfg0.N) : Memref sig .tc .vmem S4096x256 .f32 := win0_2.stage (cfg0.slots t 2)
abbrev scratchV : Memref sig .tc .vmem S4096x256 .f32 := Memref.whole cc0_scratch0
abbrev scratchY : Memref sig .tc .vmem S4096x256 .f32 := Memref.whole cc0_scratch1

/-- The result: the product of the sweep 9, normalized. -/
abbrev result (c : Dev nD) : Vec F S4096x256 .f32 := Norm.normLater (yAt (vecs m c) (mat m c) 9)

/-- The invariant before point `p`: the scratch arrays as the sweeps leave them. -/
def inv (c : Dev nD) (p : ℕ) : sProp 𝕄 :=
  iprop((∃ v y, ⌜Inv (vecs m c) (mat m c) p v y⌝ ∗ owns (c : Thread nD τ) scratchV fullShare v ∗ owns (c : Thread nD τ) scratchY fullShare y)
    ∗ (∃ r, prngReg c r))

/-- What the launch hands over, with the scratch arrays owned. -/
theorem scratch_eq (c : Dev nD) :
    (Pipeline.ΦA spec0 c : sProp 𝕄)
      = iprop(iprop((∃ d, owns (c : Thread nD τ) scratchV fullShare d) ∗ (∃ d, owns (c : Thread nD τ) scratchY fullShare d)) ∗ (∃ r, prngReg c r)) := by
  unfold Pipeline.ΦA; rw [scopedRest0_eq]; simp only [scratchV, scratchY, owns_whole]; try rfl

/-- The proof data: the inputs' buffers keep their blocks, the output's is the result, the scratch arrays follow the sweeps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => result m c
  Φ t := inv m c t.val
  q _ := fullShare
  owed _ := 0

/-- The arrays as the run finds them. -/
theorem A_eq (c : Dev nD) (w : Fin cfg0.W) : (dats m 0 c).A w = V m c (Pipeline.arrRef spec0 w) := by
  dsimp only [dats]

/-- The vectors' buffer keeps its block. -/
theorem after0 (c : Dev nD) (t : Fin cfg0.N) : (dats m 0 c).after 0 t = iblk m c 0 t := by dsimp only [dats]
/-- The matrix's buffer keeps its block. -/
theorem after1 (c : Dev nD) (t : Fin cfg0.N) : (dats m 0 c).after 1 t = iblk m c 1 t := by dsimp only [dats]
/-- The output's buffer is left at the result. -/
theorem after2 (c : Dev nD) (t : Fin cfg0.N) : (dats m 0 c).after 2 t = result m c := by dsimp only [dats]

/-- The vectors' buffer is found at all of them. -/
theorem before0 (c : Dev nD) (t : Fin cfg0.N) (d) : (dats m 0 c).before 0 t d = iblk m c 0 t :=
  before0_0_of m (dats m 0 c) (A_eq m c 0) (after0 m c) t d
/-- The matrix's buffer is found at the point's rows. -/
theorem before1 (c : Dev nD) (t : Fin cfg0.N) (d) : (dats m 0 c).before 1 t d = iblk m c 1 t :=
  before0_1_of m (dats m 0 c) (A_eq m c 1) (after1 m c) t d

/-- The body's precondition at a point, its windows one by one. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d)))

/-- The body's postcondition at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

/-- At a point that is not the last the output's window is idle. -/
theorem idle2 : ∀ t : Fin grid0.N, t.val ≠ 79 → cfg0.idle 2 (grid0.coords t) = true := by decide +kernel
/-- At the last point it is not. -/
theorem live2 : ∀ t : Fin grid0.N, t.val = 79 → cfg0.idle 2 (grid0.coords t) = false := by decide +kernel

/-- At a point that is not the last the output is not written back. -/
theorem noFlush2 (t : Fin cfg0.N) (ht : t.val ≠ 79) : (cfg0.win 2).flush t = false := by
  have hN : t.val < 80 := lt_of_lt_of_eq t.isLt N_0
  rw [Bool.eq_false_iff]
  intro h
  have := (flush0_2 t).mp h
  omega

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    show (dats m 0 c).Φ t.succ = inv m c (t.val + 1) from rfl, show (dats m 0 c).Φ t.castSucc = inv m c t.val from rfl,
    show (dats m 0 c).leavesExact 0 t = owns (c : Thread nD τ) (stage0 t) fullShare (iblk m c 0 t) from rfl,
    show (dats m 0 c).leavesExact 1 t = owns (c : Thread nD τ) (stage1 t) fullShare (iblk m c 1 t) from rfl,
    show owns (c : Thread nD τ) (stage0 t) fullShare (iblk m c 0 t) = owns (c : Thread nD τ) (stage0 t) fullShare (vecs m c)
      from congrArg _ (iblk0 m c t),
    show owns (c : Thread nD τ) (stage1 t) fullShare (iblk m c 1 t) = owns (c : Thread nD τ) (stage1 t) fullShare (rowBlock (mat m c) (t.val % 8))
      from congrArg _ (iblk1 m c t)]
  unfold inv
  by_cases ht : t.val = 79
  · rw [show (dats m 0 c).leavesExact 2 t = owns (c : Thread nD τ) (stage2 t) fullShare (result m c) from by
      unfold Dat.leavesExact; rw [live2 t ht]; rfl]
    iintro ⟨⟨⟨%v, %y, %hI, HV, HY⟩, Hg⟩, Ho, ⟨%d0, H0⟩, ⟨%d1, H1⟩, ⟨%d2, H2⟩⟩
    iapply (run_final c (stage0 t) _ (stage1 t) _ (stage2 t) _ scratchV _ scratchY _ (vecs m c) (mat m c) t ht Set.univ _)
    isplitl [H0 H1 HV HY]
    · iexists v, y
      isplitr
      · ipureintro; exact hI
      isplitl [H0]; · iexact H0
      isplitl [H1]; · iexact H1
      isplitl [HV]; · iexact HV
      iexact HY
    isplitl [H2]
    · iexists _; iexact H2
    iintro ⟨⟨%v', %y', %hI', H0, H1, HV, HY⟩, H2⟩
    isplitl [HV HY Hg]
    · isplitl [HV HY]
      · iexists v', y'
        isplitr
        · ipureintro; exact hI'
        isplitl [HV]; · iexact HV
        iexact HY
      iexact Hg
    isplitl [Ho]; · iexact Ho
    isplitl [H0]; · iexact H0
    isplitl [H1]; · iexact H1
    iexact H2
  · rw [(dats m 0 c).leavesExact_idle 2 t (idle2 t ht) (noFlush2 t ht)]
    iintro ⟨⟨⟨%v, %y, %hI, HV, HY⟩, Hg⟩, Ho, ⟨%d0, H0⟩, ⟨%d1, H1⟩, H2⟩
    iapply (run_point c (stage0 t) _ (stage1 t) _ (stage2 t) _ scratchV _ scratchY _ (vecs m c) (mat m c) t ht Set.univ _)
    isplitl [H0 H1 HV HY]
    · iexists v, y
      isplitr
      · ipureintro; exact hI
      isplitl [H0]; · iexact H0
      isplitl [H1]; · iexact H1
      isplitl [HV]; · iexact HV
      iexact HY
    iintro ⟨%v', %y', %hI', H0, H1, HV, HY⟩
    isplitl [HV HY Hg]
    · isplitl [HV HY]
      · iexists v', y'
        isplitr
        · ipureintro; exact hI'
        isplitl [HV]; · iexact HV
        iexact HY
      iexact Hg
    isplitl [Ho]; · iexact Ho
    isplitl [H0]; · iexact H0
    isplitl [H1]; · iexact H1
    iexact H2

/-- The row of the table of bodies at a point is the body there. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = inv m c 0 from rfl, scratch_eq]
  unfold inv
  iintro ⟨⟨⟨%v, HV⟩, ⟨%y, HY⟩⟩, Hg⟩
  isplitl [HV HY]
  · iexists v, y
    isplitr
    · ipureintro; exact Inv.zero _ _ v y
    isplitl [HV]; · iexact HV
    iexact HY
  iexact Hg

/-- The invariant after the last point gives back what the launch handed over. -/
theorem hout (c : Dev nD) : (dats m 0 c).Φ (Fin.last cfg0.N) ⊢ Pipeline.ΦA spec0 c := by
  rw [show (dats m 0 c).Φ (Fin.last cfg0.N) = inv m c (Fin.last cfg0.N).val from rfl, scratch_eq]
  unfold inv
  iintro ⟨⟨%v, %y, %hI, HV, HY⟩, Hg⟩
  isplitl [HV HY]
  · isplitl [HV]
    · iexists v; iexact HV
    iexists y; iexact HY
  iexact Hg

set_option backward.isDefEq.respectTransparency.types false in
/-- The launch: the arrays end as the proof data says, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run leaves the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-! ## The result array -/

/-- The last point. -/
abbrev lastPoint : Fin cfg0.N := ⟨79, by rw [show cfg0.N = 80 from N_0]; decide⟩

/-- The block written back is the whole result. -/
theorem flushed_eq (c : Dev nD) (t : Fin cfg0.N) :
    (dats m 0 c).flushed 2 t = (win0_2.blk t).view.read (Elt F) (result m c : Buf (Elt F) ((c : Thread nD τ).loc main_v0)) := by
  show (cfg0.win 2).cut (grid0.coords t) ((dats m 0 c).after 2 t) = _
  rw [after2]
  funext i
  show result m c _ = result m c ((win0_2.rect t).emb i)
  congr 1
  funext b
  apply Fin.ext
  match b with
  | ⟨0, _⟩ => show (i 0).val = 0 * 4096 + 1 * (i 0).val; omega
  | ⟨1, _⟩ => show (i 1).val = 0 * 256 + 1 * (i 1).val; omega

/-- Every index of the result array is in it. -/
theorem cover (i : S4096x256.Idx) : ∃ t : Fin cfg0.N, (cfg0.win 2).flush t = true ∧ i ∈ ((cfg0.win 2).blk t).view.set := by
  refine ⟨lastPoint, (flush0_2 lastPoint).mpr rfl, ?_⟩
  show i ∈ ((View.whole main_v0).slice (win0_2.rect lastPoint)).set
  rw [View.set_slice_whole, Rect.mem_set_unit]
  intro b
  match b with
  | ⟨0, _⟩ =>
    show 0 * 4096 ≤ (i 0).val ∧ (i 0).val < 0 * 4096 + 4096
    have h0 : (i 0).val < 4096 := (i 0).isLt
    omega
  | ⟨1, _⟩ =>
    show 0 * 256 ≤ (i 1).val ∧ (i 1).val < 0 * 256 + 256
    have h1 : (i 1).val < 256 := (i 1).isLt
    omega

/-- So the result array ends at the last product normalized. -/
theorem final (c : Dev nD) : (dats m 0 c).arrAt 2 cfg0.N = result m c :=
  (dats m 0 c).arrAt_eq_of_cover 2 (result m c) (fun t _ => flushed_eq m c t) cover

/-- The run, read: the result, and the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final m c),
      ((h.1 c).1 0).trans ((dats m 0 c).arrAt_in 0 rfl _), ((h.1 c).1 1).trans ((dats m 0 c).arrAt_in 1 rfl _)⟩)
    (run_main m ρ)

end Cert.KernelIdeal.Run
end
-- ==== Proof.Algebra.lean ====
module

public import proofs.«01_k».proof.Proof.Sweeps
public import proofs.«01_k».proof.Proof.Gen.ReferenceIdeal.Run
public import Idealize.ShloMosaic.Lib.Pointwise

/-!
# The sweeps are the reference's, over the extended reals

The soft threshold, the normalization and the product of one sweep, each equal to the reference's, index by index; then the ten
sweeps together.
-/

@[expose] public section

set_option maxRecDepth 16384

noncomputable section

namespace Cert.Algebra

open Idealize.ShloMosaic Idealize.ShloMosaic.TcCoe
open Cert.KernelIdeal.Norm Cert.KernelIdeal.Sweeps

/-! ## The reference's steps -/

section Reference

open Cert.ReferenceIdeal Cert.ReferenceIdeal.Gen

/-- The reference's soft threshold. -/
def refSoft (y : FVec Ideal S4096x256 .f32) : FVec Ideal S4096x256 .f32 :=
  subf y (mulf (broadcastInDim S4096x256 ![] bcast_S_S4096x256 (constant S_ .f32 0x3F000000#32)) (Host.sign y))

/-- The reference's normalization. -/
def refNorm (s : FVec Ideal S4096x256 .f32) : FVec Ideal S4096x256 .f32 :=
  Host.divf s (broadcastInDim S4096x256 ![0, 1] bcast_S1x256_S4096x256_0_1
    (maximumf (Host.sqrt (broadcastInDim S1x256 ![1] bcast_S256_S1x256_1
        (Host.reduceAdd (mulf s s) (constant S_ .f32 0x00000000#32) reducesTo_S4096x256_S256_d0
          h_S_)))
      (broadcastInDim S1x256 ![] bcast_S_S1x256 (constant S_ .f32 0x2B8CBCCC#32))))

/-- The reference's product. -/
def refDot (a : FVec Ideal S4096x4096 .f32) (v : FVec Ideal S4096x256 .f32) : FVec Ideal S4096x256 .f32 :=
  Host.dotGeneral dot_S4096x4096_S4096x256_S4096x256_1_0_0_1_n_n none a v

end Reference

open Cert.KernelIdeal (S4096x256 S4096x4096 S8x256 S1x256 S512x256 S512x4096)

/-! ## The product -/

/-- The rows that one point computes, at an index: the sum of the products along the row. -/
theorem rowProduct_apply (n : ℕ) (l : FVec Ideal S512x4096 .f32) (v : FVec Ideal S4096x256 .f32) (r : Fin 512) (q : Fin 256) :
    rowProduct (F := Ideal) n l v (ix2 r q) = ∑ k : Fin 4096, l (ix2 r k) * v (ix2 k q) := by
  unfold rowProduct
  split_ifs
  · pointwise [Cert.KernelIdeal.Gen.k0_pay4]
  · pointwise [Cert.KernelIdeal.Gen.k0_pay5]

/-- A row of the matrix, found in its block of rows. -/
theorem rowBlock_apply (a : FVec Ideal S4096x4096 .f32) (r k : Fin 4096) :
    rowBlock (F := Ideal) a (r.val / 512) (ix2 (⟨r.val % 512, Nat.mod_lt _ (by decide)⟩ : Fin 512) k) = a (ix2 r k) := by
  show a _ = a _
  congr 1
  funext b
  apply Fin.ext
  match b with
  | ⟨0, _⟩ =>
    show 512 * (r.val / 512 % 8) + r.val % 512 = r.val
    have := r.isLt
    omega
  | ⟨1, _⟩ => rfl

/-- The product of a sweep is the reference's. -/
theorem product_eq (n : ℕ) (a : FVec Ideal S4096x4096 .f32) (v : FVec Ideal S4096x256 .f32) : product (F := Ideal) n a v = refDot a v := by
  funext j
  idx_vars j
  show rowProduct (F := Ideal) n (rowBlock a (j0.val / 512)) v (ix2 (⟨j0.val % 512, Nat.mod_lt _ (by decide)⟩ : Fin 512) j1) = _
  rw [rowProduct_apply]
  simp only [rowBlock_apply]
  pointwise [refDot]

/-! ## The soft threshold -/

/-- The soft threshold is the reference's. -/
theorem soft_eq (y : FVec Ideal S4096x256 .f32) : soft y = refSoft y := by
  funext j
  have h : soft y j = Scalar.subf (y j) (Scalar.mulf (Scalar.ofBits .f32 0x3F000000#32) (Ideal.sign (y j))) :=
    congrArg (fun s => Scalar.subf (y j) (Scalar.mulf (Scalar.ofBits .f32 0x3F000000#32) s)) (Ideal.jnp_sign_eq_sign_f32 (y j))
  rw [h]
  pointwise [refSoft]

/-! ## The column sums -/

/-- The blocks of even number and the blocks of odd number together are all blocks. -/
theorem sum_even_odd {M : Type} [AddCommMonoid M] (f : ℕ → M) (n : ℕ) :
    (∑ t ∈ Finset.range n, f (2 * t)) + (∑ t ∈ Finset.range n, f (2 * t + 1)) = ∑ t ∈ Finset.range (2 * n), f t := by
  induction n with
  | zero => simp
  | succ n ih =>
    rw [Finset.sum_range_succ, Finset.sum_range_succ, show 2 * (n + 1) = 2 * n + 1 + 1 from by omega, Finset.sum_range_succ,
      Finset.sum_range_succ, ← ih]
    abel

variable (w : FVec Ideal S4096x256 .f32)

/-- The one chain at an index: the sum over its blocks. -/
theorem oneChain_apply (n : ℕ) (j : S8x256.Idx) : oneChain w n j = ∑ t ∈ Finset.range (n + 1), (block w t j : EReal) := by
  induction n with
  | zero => simp [oneChain]
  | succ n ih =>
    rw [Finset.sum_range_succ, ← ih]
    rfl

/-- Half of the blocks at an index: the sum over them. -/
theorem halfChain_apply (o n : ℕ) (j : S8x256.Idx) :
    halfChain w o n j = ∑ t ∈ Finset.range (n + 1), (block w (2 * t + o) j : EReal) := by
  induction n with
  | zero => simp [halfChain]
  | succ n ih =>
    rw [Finset.sum_range_succ, ← ih]
    rfl

/-- The two chains together are the one chain. -/
theorem chains_eq : addf (halfChain w 0 255) (halfChain w 1 255) = oneChain w 511 := by
  funext j
  have h : addf (halfChain w 0 255) (halfChain w 1 255) j = (halfChain w 0 255 j : EReal) + halfChain w 1 255 j := rfl
  rw [h, halfChain_apply, halfChain_apply, oneChain_apply]
  exact sum_even_odd (fun t => (block w t j : EReal)) 256

/-- A block at an index. -/
theorem block_apply (t : Fin 512) (p : Fin 8) (q : Fin 256) :
    block w t (ix2 p q) = w (ix2 (finProdFinEquiv (t, p) : Fin (512 * 8)) q) := by
  unfold block
  show w _ = w _
  congr 1
  funext a
  apply Fin.ext
  match a with
  | ⟨0, _⟩ =>
    show 8 * (t.val % 512) + p.val = p.val + 8 * t.val
    have := t.isLt
    omega
  | ⟨1, _⟩ => show 0 + q.val = q.val; omega

/-- The eight rows folded are their sum. -/
theorem foldRows_apply (a : FVec Ideal S8x256 .f32) (q : Fin 256) : foldRows a (ix2 0 q) = ∑ p : Fin 8, (a (ix2 p q) : EReal) := by
  rw [Fin.sum_univ_eight]
  pointwise [foldRows]
  abel

/-- The column sum as the kernel adds it is the sum over the rows. -/
theorem columnSum (q : Fin 256) : foldRows (oneChain w 511) (ix2 0 q) = ∑ k : Fin 4096, (w (ix2 k q) : EReal) := by
  rw [foldRows_apply]
  simp only [oneChain_apply]
  rw [Finset.sum_comm, Finset.sum_range (n := 512) (f := fun t => ∑ p : Fin 8, (block w t (ix2 p q) : EReal))]
  simp only [block_apply]
  rw [← Fintype.sum_prod_type' (f := fun (t : Fin 512) (p : Fin 8) => (w (ix2 (finProdFinEquiv (t, p) : Fin (512 * 8)) q) : EReal))]
  exact Fintype.sum_equiv (finProdFinEquiv (m := 512) (n := 8)) _ (fun k : Fin (512 * 8) => (w (ix2 k q) : EReal)) fun _ => rfl

/-! ## The normalization -/

/-- The normalization by one chain is the reference's. -/
theorem normFirst_eq (y : FVec Ideal S4096x256 .f32) : normFirst y = refNorm (refSoft y) := by
  funext j
  idx_vars j
  unfold normFirst softSq
  rw [soft_eq]
  generalize refSoft y = s
  pointwise [divide, refNorm]
  rw [columnSum]
  pointwise

/-- The normalization by two chains is the reference's. -/
theorem normLater_eq (y : FVec Ideal S4096x256 .f32) : normLater y = refNorm (refSoft y) := by
  rw [← normFirst_eq]
  unfold normLater normFirst
  rw [chains_eq]

/-! ## The ten sweeps -/

variable (x : FVec Ideal S4096x256 .f32) (a : FVec Ideal S4096x4096 .f32)

/-- The reference's product after `n` rounds of threshold, normalization and product. -/
def refY : ℕ → FVec Ideal S4096x256 .f32
  | 0 => refDot a x
  | n + 1 => refDot a (refNorm (refSoft (refY n)))

/-- Each sweep starts from the product before it, normalized. -/
theorem vAt_succ (n : ℕ) : vAt (F := Ideal) x a (n + 1) = refNorm (refSoft (yAt (F := Ideal) x a n)) := by
  cases n with
  | zero => exact normFirst_eq _
  | succ n => exact normLater_eq _

/-- The product of a sweep is the reference's. -/
theorem yAt_eq (n : ℕ) : yAt (F := Ideal) x a n = refY x a n := by
  induction n with
  | zero => exact product_eq 0 a x
  | succ n ih =>
    unfold yAt
    rw [product_eq, vAt_succ, ih]
    rfl

/-- The kernel's result is the reference's last product, normalized. -/
theorem result_eq : normLater (yAt (F := Ideal) x a 9) = refNorm (refSoft (refY x a 9)) := by
  rw [normLater_eq, yAt_eq]

end Cert.Algebra
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The reference ends and leaves its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's last product is the one its run names. -/
theorem reference_eq (V : Valuation Cert.ReferenceIdeal.τ Cert.ReferenceIdeal.sig (Elt Ideal)) :
    Cert.ReferenceIdeal.Value.res_main_v117 V
      = Cert.Algebra.refY (V (Proc.devRef .tc Cert.ReferenceIdeal.main_arg0)) (V (Proc.devRef .tc Cert.ReferenceIdeal.main_arg1)) 9 := rfl

/-- The reference's run, read: the last product normalized, the arguments unchanged. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v129)
          = Cert.Algebra.refNorm (Cert.Algebra.refSoft (Cert.ReferenceIdeal.Value.res_main_v117 (StableHlo.launchContents m c)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  Cert.ReferenceIdeal.Value.run (F := Ideal) m ρ

/-- The two results are equal when the arguments are. -/
theorem results_eq (V : Valuation Cert.ReferenceIdeal.τ Cert.ReferenceIdeal.sig (Elt Ideal))
    (x : FVec Ideal Cert.KernelIdeal.S4096x256 .f32) (a : FVec Ideal Cert.KernelIdeal.S4096x4096 .f32)
    (hx : V (Proc.devRef .tc Cert.ReferenceIdeal.main_arg0) = x) (ha : V (Proc.devRef .tc Cert.ReferenceIdeal.main_arg1) = a) :
    Cert.Algebra.refNorm (Cert.Algebra.refSoft (Cert.ReferenceIdeal.Value.res_main_v117 V))
      = Cert.KernelIdeal.Norm.normLater (Cert.KernelIdeal.Sweeps.yAt (F := Ideal) x a 9) := by
  rw [reference_eq, hx, ha, Cert.Algebra.result_eq]

/-- The kernel's result and the reference's are equal over the extended reals. -/
theorem algebraic : Cert.algebraic_KernelIdeal_ReferenceIdeal := by
  intro m ρ m' ρ' _ hagree
  exact ⟨fun c => Cert.KernelIdeal.Run.result m c, Cert.KernelIdeal.Run.run (F := Ideal) m ρ,
    (θ_run Cert.ReferenceIdeal.defs _ _).mono
      (fun _ h c => ⟨(h c).1.trans (results_eq _ _ _ (hagree c).1 (hagree c).2), (h c).2⟩) (run_reference m' ρ')⟩

/-- The five claims. -/
theorem claim : Cert.Claim := ⟨Cert.Kernel.Gen.facts, Cert.KernelIdeal.Gen.facts, Cert.ReferenceIdeal.Gen.facts,
  fun m ρ _ => Cert.Kernel.KernelFrame.frame m ρ, fun m ρ _ => Cert.KernelIdeal.Run.frame m ρ, frame_reference,
  IdealRules.sign_bit.statement Cert.KernelIdeal.S4096x256 .f32, algebraic⟩

end Cert.Proof

end
